-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x384x3072 : Shape := ⟨3, ![3, 384, 3072]⟩
abbrev S3x384x1 : Shape := ⟨3, ![3, 384, 1]⟩
abbrev S20352x3072 : Shape := ⟨2, ![20352, 3072]⟩
abbrev S20352 : Shape := ⟨1, ![20352]⟩
abbrev S1152x3072 : Shape := ⟨2, ![1152, 3072]⟩
abbrev S9x1x128 : Shape := ⟨3, ![9, 1, 128]⟩
abbrev S159x128 : Shape := ⟨2, ![159, 128]⟩
abbrev S1152x20352 : Shape := ⟨2, ![1152, 20352]⟩
abbrev S2048x3072 : Shape := ⟨2, ![2048, 3072]⟩
abbrev S16x128 : Shape := ⟨2, ![16, 128]⟩
abbrev S1152x2048 : Shape := ⟨2, ![1152, 2048]⟩
abbrev S1152x128 : Shape := ⟨2, ![1152, 128]⟩
abbrev S1x1x128 : Shape := ⟨3, ![1, 1, 128]⟩
abbrev S1x128 : Shape := ⟨2, ![1, 128]⟩
abbrev S128x128 : Shape := ⟨2, ![128, 128]⟩
abbrev S384x3072 : Shape := ⟨2, ![384, 3072]⟩
abbrev S512x3072 : Shape := ⟨2, ![512, 3072]⟩
abbrev S384x512 : Shape := ⟨2, ![384, 512]⟩
abbrev S384x128 : Shape := ⟨2, ![384, 128]⟩
abbrev S3x384x20352 : Shape := ⟨3, ![3, 384, 20352]⟩

abbrev nBuf : Space → Nat
  | .hbm => 11
  | .vmem => 11
  | .smem => 0
  | _ => 0

abbrev bufTy : (tb : Table) → Fin (tcTables nBuf tb) → BufTy
  | .hbm, ⟨0, _⟩ => ⟨S3x384x3072, .fp8e4m3⟩
  | .hbm, ⟨1, _⟩ => ⟨S3x384x1, .f32⟩
  | .hbm, ⟨2, _⟩ => ⟨S20352x3072, .fp8e4m3⟩
  | .hbm, ⟨3, _⟩ => ⟨S20352, .f32⟩
  | .hbm, ⟨4, _⟩ => ⟨S20352, .f32⟩
  | .hbm, ⟨5, _⟩ => ⟨S1152x3072, .fp8e4m3⟩
  | .hbm, ⟨6, _⟩ => ⟨S9x1x128, .f32⟩
  | .hbm, ⟨7, _⟩ => ⟨S159x128, .f32⟩
  | .hbm, ⟨8, _⟩ => ⟨S159x128, .f32⟩
  | .hbm, ⟨9, _⟩ => ⟨S1152x20352, .bf16⟩
  | .hbm, ⟨10, _⟩ => ⟨S3x384x20352, .bf16⟩
  | .local _ .vmem, ⟨0, _⟩ => ⟨S1152x3072, .fp8e4m3⟩
  | .local _ .vmem, ⟨1, _⟩ => ⟨S9x1x128, .f32⟩
  | .local _ .vmem, ⟨2, _⟩ => ⟨S2048x3072, .fp8e4m3⟩
  | .local _ .vmem, ⟨3, _⟩ => ⟨S2048x3072, .fp8e4m3⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S1152x2048, .bf16⟩
  | .local _ .vmem, ⟨9, _⟩ => ⟨S1152x2048, .bf16⟩
  | .local _ .vmem, ⟨10, _⟩ => ⟨S1152x128, .f32⟩
  | _, _ => ⟨S3x384x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1152x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S9x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x3072 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1152x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S3x384x3072 : Shape := ⟨3, ![3, 384, 3072]⟩
abbrev S3x384x1 : Shape := ⟨3, ![3, 384, 1]⟩
abbrev S20352x3072 : Shape := ⟨2, ![20352, 3072]⟩
abbrev S20352 : Shape := ⟨1, ![20352]⟩
abbrev S3x384x20352 : Shape := ⟨3, ![3, 384, 20352]⟩
abbrev S1x1x20352 : Shape := ⟨3, ![1, 1, 20352]⟩

abbrev nBuf : Space → Nat
  | .hbm => 6
  | .vmem => 6
  | .smem => 0
  | _ => 0

abbrev bufTy : (tb : Table) → Fin (tcTables nBuf tb) → BufTy
  | .hbm, ⟨0, _⟩ => ⟨S3x384x3072, .fp8e4m3⟩
  | .hbm, ⟨1, _⟩ => ⟨S3x384x1, .f32⟩
  | .hbm, ⟨2, _⟩ => ⟨S20352x3072, .fp8e4m3⟩
  | .hbm, ⟨3, _⟩ => ⟨S20352, .f32⟩
  | .hbm, ⟨4, _⟩ => ⟨S20352, .f32⟩
  | .hbm, ⟨5, _⟩ => ⟨S3x384x20352, .bf16⟩
  | .local _ .vmem, ⟨0, _⟩ => ⟨S3x384x3072, .fp8e4m3⟩
  | .local _ .vmem, ⟨1, _⟩ => ⟨S3x384x1, .f32⟩
  | .local _ .vmem, ⟨2, _⟩ => ⟨S20352x3072, .fp8e4m3⟩
  | .local _ .vmem, ⟨3, _⟩ => ⟨S20352, .f32⟩
  | .local _ .vmem, ⟨4, _⟩ => ⟨S20352, .f32⟩
  | .local _ .vmem, ⟨5, _⟩ => ⟨S3x384x20352, .bf16⟩
  | _, _ => ⟨S3x384x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x384x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20352x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20352 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x384x20352 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelBody.lean ====
/- One run of the kernel body, at any float values. -/
module

public import proofs.«01_k».proof.Proof.Gen.Kernel.Skeleton
public import proofs.«01_k».proof.Proof.Gen.Kernel.Frame

@[expose] public section

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

set_option maxHeartbeats 4000000 in
/-- One run of the kernel body, whatever its buffers hold: it ends with the same buffers. -/
theorem body_triple (c : Dev nD) (E : Set ℕ) (i : grid0.Coords)
    (arg1 : Memref sig .tc .vmem S1152x3072 .fp8e4m3) (harg1 : arg1.IsWhole) (arg2 : Memref sig .tc .vmem S9x1x128 .f32) (harg2 : arg2.IsWhole)
    (arg3 : Memref sig .tc .vmem S2048x3072 .fp8e4m3) (harg3 : arg3.IsWhole) (arg4 : Memref sig .tc .vmem S16x128 .f32) (harg4 : arg4.IsWhole)
    (arg5 : Memref sig .tc .vmem S16x128 .f32) (harg5 : arg5.IsWhole) (arg6 : Memref sig .tc .vmem S1152x2048 .bf16) (harg6 : arg6.IsWhole)
    (arg7 : Memref sig .tc .vmem S1152x128 .f32) (harg7 : arg7.IsWhole)
    (K : PUnit → sProp 𝕄) :
    iprop((∃ d, owns (c : Thread nD τ) arg1 fullShare d) ∗ (∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d) ∗ (∃ d, owns (c : Thread nD τ) arg6 fullShare d)
        ∗ (∃ d, owns (c : Thread nD τ) arg7 fullShare d)
        ∗ (iprop((∃ d, owns (c : Thread nD τ) arg1 fullShare d) ∗ (∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d) ∗ (∃ d, owns (c : Thread nD τ) arg6 fullShare d)
        ∗ (∃ d, owns (c : Thread nD τ) arg7 fullShare d)) -∗ K ⟨⟩))
      ⊢ wp frame (wpE (defs₀ (F := F)) Variants.none c none) E
          (cc0__linear_kernel i arg1 harg1 arg2 harg2 arg3 harg3 arg4 harg4 arg5 harg5 arg6 harg6 arg7 harg7) K := by
  simp only [cc0__linear_kernel_eq_skeleton]; unfold cc0__linear_kernel_skel
  unfold owns
  iintro ⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, Hk⟩
  sl_exec
  sl_step
  iapply Hk
  isplitl [H0]; · iexists _, _; isplitr; swap; · iexact H0
                  ipureintro; rfl
  isplitl [H1]; · iexists _, _; isplitr; swap; · iexact H1
                  ipureintro; rfl
  isplitl [H2]; · iexists _, _; isplitr; swap; · iexact H2
                  ipureintro; rfl
  isplitl [H3]; · iexists _, _; isplitr; swap; · iexact H3
                  ipureintro; rfl
  isplitl [H4]; · iexists _, _; isplitr; swap; · iexact H4
                  ipureintro; rfl
  isplitl [H5]; · iexists _, _; isplitr; swap; · iexact H5
                  ipureintro; rfl
  iexists _, _; isplitr; swap; · iexact H6
  ipureintro; rfl

/-- The body table's row at point `t`'s staging buffers is the kernel body there. -/
theorem body_row (t : Fin cfg0.N) :
    defs₀ (F := F) .tc cfg0.body (cfg0.bodyArgs t (cfg0.slots t)) = bodyAt0 t := by
  unfold defs₀; rw [Defs.onTc_tc]

end Cert.Kernel.Hand

end
-- ==== Proof.KernelFrame.lean ====
/- The kernel's frame, at any float values: every run ends, the arguments unchanged, every counter at zero. -/
module

public import proofs.«01_k».proof.Proof.KernelBody

@[expose] public section

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame: nothing is said of what the staging buffers hold -/

/-- The proof data for the frame. Every window is forgotten below, so what `after` names is never read. -/
def frameDats (_ : Fin 1) (c : Dev nD) : Dat τ (Elt F) Unit ℕ (UR sig nD τ) ℕ cfg0 c where
  A w := V m c (Pipeline.arrRef spec0 w)
  after w t := fun _ => Classical.choice inferInstance
  Φ _ := Pipeline.ΦA spec0 c
  q _ := fullShare
  owed _ := 0

/-- Every window is forgotten: its buffer is handed to the body at any contents and taken back at any contents. -/
abbrev forgetAll : Fin cfg0.W → Bool := fun _ => true

/-- Between two points the pipeline holds the kernel's scratch buffer, at some contents, and the generator's register. -/
theorem held_eq (c : Dev nD) : (Pipeline.ΦA spec0 c : sProp 𝕄)
    = iprop((∃ d, owns (c : Thread nD τ) (Memref.whole cc0_scratch0) fullShare d) ∗ ∃ r, prngReg c r) := by
  unfold Pipeline.ΦA
  rw [scopedRest0_eq]
  simp only [owns_whole]

/-- The body at any point, its buffers at any contents. -/
theorem frame_body (c : Dev nD) (t : Fin cfg0.N) :
    iprop((frameDats (F := F) m 0 c).Φ t.castSucc ∗ (frameDats (F := F) m 0 c).owesAt () t.castSucc
      ∗ (∃ d, owns (c : Thread nD τ) (st0_0 t) fullShare d) ∗ (∃ d, owns (c : Thread nD τ) (st0_1 t) fullShare d)
      ∗ (∃ d, owns (c : Thread nD τ) (st0_2 t) fullShare d) ∗ (∃ d, owns (c : Thread nD τ) (st0_3 t) fullShare d)
      ∗ (∃ d, owns (c : Thread nD τ) (st0_4 t) fullShare d) ∗ (∃ d, owns (c : Thread nD τ) (st0_5 t) fullShare d))
    ⊢ wp frame (wpE (defs₀ (F := F)) Variants.none c none) Set.univ (bodyAt0 t) (fun _ =>
      iprop((frameDats (F := F) m 0 c).Φ t.succ ∗ (frameDats (F := F) m 0 c).owesAt () t.succ
      ∗ (∃ d, owns (c : Thread nD τ) (st0_0 t) fullShare d) ∗ (∃ d, owns (c : Thread nD τ) (st0_1 t) fullShare d)
      ∗ (∃ d, owns (c : Thread nD τ) (st0_2 t) fullShare d) ∗ (∃ d, owns (c : Thread nD τ) (st0_3 t) fullShare d)
      ∗ (∃ d, owns (c : Thread nD τ) (st0_4 t) fullShare d) ∗ (∃ d, owns (c : Thread nD τ) (st0_5 t) fullShare d))) := by
  unfold bodyAt0
  rw [show (frameDats m 0 c).Φ t.succ = (frameDats m 0 c).Φ t.castSucc from rfl,
    show (frameDats m 0 c).owesAt () t.succ = (frameDats m 0 c).owesAt () t.castSucc from rfl]
  rw [show (frameDats m 0 c).Φ t.castSucc = Pipeline.ΦA spec0 c from rfl, held_eq]
  iintro ⟨⟨H6, Hr⟩, Ho, H0, H1, H2, H3, H4, H5⟩
  iapply (body_triple c Set.univ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [H6 Hr]
  · isplitl [H6]; · iexact H6
    iexact Hr
  isplitl [Ho]; · iexact Ho
  isplitl [H0]; · iexact H0
  isplitl [H1]; · iexact H1
  isplitl [H2]; · iexact H2
  isplitl [H3]; · iexact H3
  isplitl [H4]; · iexact H4
  iexact H5

/-- The library's body obligation with every window forgotten. -/
theorem frame_obligation (c : Dev nD) :
    BodyObligationLoose (frameDats (F := F) m 0 c) (defs₀ (F := F)) Variants.none () Set.univ forgetAll := fun t => by
  rw [bigSep_W0, body_row]
  exact triple_restated (frame_body m c t) rfl .rfl fun _ => .rfl

/-- The line after the region writes `main_v5` only. -/
theorem tail_writes : ∀ ops ∈ ([hostOps1] : List (List (HloOp τ sig (Elt F)))), ∀ op ∈ ops,
    ∀ b : Ref sig .tc, Proc.devRef .tc b ∈ op.writes → b ∈ ({main_v5} : Finset (Ref sig .tc)) := by
  intro ops hops op hop b hb
  simp only [List.mem_cons, List.mem_nil_iff, or_false] at hops
  subst hops
  simp only [hostOps1, List.mem_cons, List.mem_nil_iff, or_false] at hop
  subst hop
  rw [StableHlo.reshape_writes, Finset.mem_singleton] at hb
  rw [Finset.mem_singleton]
  by_contra hne
  exact StableHlo.devRef_ne_of_ne hne hb

set_option backward.isDefEq.respectTransparency.types false in
set_option maxHeartbeats 800000 in
/-- The launch: every run ends, each input array as the region found it, every buffer no window stages and no later
    line writes as the region found it, and every semaphore counter at zero. -/
theorem frame_run : θ_run defs (onTc (τ := τ) (main (F := F))) (s₀ m ρ) (fun r =>
    RDat.FramePostR cfg0 (fun c => (frameDats m 0 c).toRForget forgetAll) {main_v5} (V m) r ∧ r.2.sem = fun _ => 0) :=
  Pipeline.θ_run_frame_around_T_forget (Q' := _) cfgs (frameDats m) (0 : Fin 1) launch0 defs₀ Variants.none forgetAll {main_v5} m ρ main
    (hbody := fun c => frame_obligation m c) (hshare := fun c => (frameDats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := fun _ _ => rfl) (hΦ := fun _ _ => rfl)
    (hQ' := fun _ h => h)

/-- THE FRAME: every run ends with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (frame_run m ρ)
  have rest : ∀ b : Ref sig .tc, b ∈ Pipeline.restRefs sig spec0 → b ≠ main_v5 →
      r.2.mem ((c.tc : Thread nD τ).loc b) = V m c b :=
    fun b hb hne => (h.1 c).2 b (Finset.mem_sdiff.2 ⟨hb, fun hm => hne (Finset.mem_singleton.1 hm)⟩)
  exact ⟨(rest main_arg0 (Pipeline.mem_restRefs_of main_arg0 (by decide) (by decide)) (by decide)).trans (V_main_arg0 m c),
    (rest main_arg1 (Pipeline.mem_restRefs_of main_arg1 (by decide) (by decide)) (by decide)).trans (V_main_arg1 m c),
    (h.1.arr_in c 2 rfl).trans (V_main_arg2 m c),
    (rest main_arg3 (Pipeline.mem_restRefs_of main_arg3 (by decide) (by decide)) (by decide)).trans (V_main_arg3 m c),
    (rest main_arg4 (Pipeline.mem_restRefs_of main_arg4 (by decide) (by decide)) (by decide)).trans (V_main_arg4 m c)⟩

end Cert.Kernel.Hand

end
-- ==== Proof.Reference.lean ====
/- What the reference computes, entry by entry, over the extended reals. -/
module

public import proofs.«01_k».proof.Proof.Gen.ReferenceIdeal.Skeleton
public import proofs.«01_k».proof.Proof.Gen.ReferenceIdeal.Value
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

/-- Entry `(b, s, n)` of the reference's result: the dot product of row `(b, s)` of `x` with row `n` of `w`, times the
    row's scale, times the column's scale, plus the column's bias. -/
theorem reference_at (a0 : FVec Ideal S3x384x3072 .fp8e4m3) (a1 : FVec Ideal S3x384x1 .f32) (a2 : FVec Ideal S20352x3072 .fp8e4m3)
    (a3 a4 : FVec Ideal S20352 .f32) (b : Fin 3) (s : Fin 384) (n : Fin 20352) :
    Value.G5 (F := Ideal) a0 a1 a2 a3 a4 (ix3 b s n)
      = (∑ k : Fin 3072, a0 (ix3 b s k) * a2 (ix2 n k)) * a1 (ix3 b s (0 : Fin 1)) * a3 (ix1 n) + a4 (ix1 n) := by
  pointwise! [Value.G5, k0_pay1]

end Cert.ReferenceIdeal.Hand

end
-- ==== Proof.KernelIdealBody.lean ====
/- One run of the kernel body, over the extended reals. -/
module

public import proofs.«01_k».proof.Proof.Gen.KernelIdeal.Skeleton
public import proofs.«01_k».proof.Proof.Gen.KernelIdeal.Frame
public import Idealize.ShloMosaic.Lib.Pointwise
public import Idealize.ShloMosaic.Lib.Pipeline.Value
public import Idealize.ShloMosaic.Lib.Pipeline.ValueKit

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

/-- The first grid point's condition, as the body computes it from the grid coordinate. -/
abbrev isFirst (i : grid0.Coords) : Prop :=
  Scalar.cmpi .ne (Scalar.extui (Scalar.cmpi .eq (BitVec.ofNat 32 (i 0).val) 0#32) : BitVec 32) 0#32 = 1#1

/-- What the body does at the first grid point only: it fills the scratch buffer from `x_scale`. -/
def fillScratch (i : grid0.Coords) (arg1 : Memref sig .tc .vmem S1152x3072 .fp8e4m3) (harg1 : arg1.IsWhole) (arg2 : Memref sig .tc .vmem S9x1x128 .f32) (harg2 : arg2.IsWhole)
    (arg3 : Memref sig .tc .vmem S2048x3072 .fp8e4m3) (harg3 : arg3.IsWhole) (arg4 : Memref sig .tc .vmem S16x128 .f32) (harg4 : arg4.IsWhole)
    (arg5 : Memref sig .tc .vmem S16x128 .f32) (harg5 : arg5.IsWhole) (arg6 : Memref sig .tc .vmem S1152x2048 .bf16) (harg6 : arg6.IsWhole)
    (arg7 : Memref sig .tc .vmem S1152x128 .f32) (harg7 : arg7.IsWhole) : Prog (TpuEff nD τ sig (Elt Ideal) Λ₀ .tc) PUnit := do
  let v671 : Vec Ideal S1x1x128 .f32 ← k0_part1 i arg1 harg1 arg2 harg2 arg3 harg3 arg4 harg4 arg5 harg5 arg6 harg6 arg7 harg7
  let v707 : FVec Ideal S128x128 .f32 ← k0_part2 i arg1 harg1 arg2 harg2 arg3 harg3 arg4 harg4 arg5 harg5 arg6 harg6 arg7 harg7 v671
  let v708 : Vec Ideal S128x128 .f32 ← Prog.lift (.load arg7 (Rect.unit (s := S1152x128) ![1024, 0] S128x128.size inb_S1152x128_S128x128_1024_0).toLoadRect (View.loadsAt_vmem h_S128x128))
  Prog.lift (.store arg7 (Rect.unit (s := S1152x128) ![1024, 0] S128x128.size inb_S1152x128_S128x128_1024_0) (k0_pay10 v707) Finset.univ (View.stores_vmem_bits_univ h_S128x128 rfl) (.inl rfl))
  pure ⟨⟩

/-- At the first grid point the body is the fill of the scratch buffer followed by the body at any other point. -/
theorem body_first (i i' : grid0.Coords) (hi : isFirst i) (hi' : ¬ isFirst i')
    (arg1 : Memref sig .tc .vmem S1152x3072 .fp8e4m3) (harg1 : arg1.IsWhole) (arg2 : Memref sig .tc .vmem S9x1x128 .f32) (harg2 : arg2.IsWhole)
    (arg3 : Memref sig .tc .vmem S2048x3072 .fp8e4m3) (harg3 : arg3.IsWhole) (arg4 : Memref sig .tc .vmem S16x128 .f32) (harg4 : arg4.IsWhole)
    (arg5 : Memref sig .tc .vmem S16x128 .f32) (harg5 : arg5.IsWhole) (arg6 : Memref sig .tc .vmem S1152x2048 .bf16) (harg6 : arg6.IsWhole)
    (arg7 : Memref sig .tc .vmem S1152x128 .f32) (harg7 : arg7.IsWhole) :
    cc0__linear_kernel (F := Ideal) i arg1 harg1 arg2 harg2 arg3 harg3 arg4 harg4 arg5 harg5 arg6 harg6 arg7 harg7
      = fillScratch i arg1 harg1 arg2 harg2 arg3 harg3 arg4 harg4 arg5 harg5 arg6 harg6 arg7 harg7
        >>= fun _ => cc0__linear_kernel i' arg1 harg1 arg2 harg2 arg3 harg3 arg4 harg4 arg5 harg5 arg6 harg6 arg7 harg7 := by
  simp only [cc0__linear_kernel_eq_skeleton, cc0__linear_kernel_skel, k0_part20_eq_skeleton, k0_part20_skel, k0_part3_eq_skeleton, k0_part3_skel]
  rw [dif_pos hi, dif_neg hi']
  simp only [fillScratch, bind_assoc, pure_bind]
  rfl

/-- The block of the linear layer: entry `(r, q)` is the dot product of row `r` of `x` with row `q` of the `w` block, times
    the row's scale, times the column's scale, plus the column's bias. Column `q` of the two vectors lies at row `q / 128`,
    lane `q % 128`; the row's scale stands in every lane of the scratch buffer's row, and lane `q % 128` is the one read. -/
def outBlock (x : FVec Ideal S1152x3072 .fp8e4m3) (s : FVec Ideal S1152x128 .f32) (w : FVec Ideal S2048x3072 .fp8e4m3)
    (v b : FVec Ideal S16x128 .f32) : FVec Ideal S1152x2048 .bf16 := fun j =>
  (∑ k : Fin 3072, x (ix2 (j 0) k) * w (ix2 (j 1) k))
      * s (ix2 (j 0) (⟨(j 1).val % 128, Nat.mod_lt _ (by decide)⟩ : Fin 128))
      * v (ix2 (⟨(j 1).val / 128, Nat.div_lt_of_lt_mul (j 1).isLt⟩ : Fin 16) (⟨(j 1).val % 128, Nat.mod_lt _ (by decide)⟩ : Fin 128))
    + b (ix2 (⟨(j 1).val / 128, Nat.div_lt_of_lt_mul (j 1).isLt⟩ : Fin 16) (⟨(j 1).val % 128, Nat.mod_lt _ (by decide)⟩ : Fin 128))

/-- One tile of the block, entry by entry: the dot products of 384 rows of `x` with 512 rows of `w`, 128 of their columns from
    column `o` on, scaled and shifted. -/
theorem tile_at (X : FVec Ideal S384x3072 .fp8e4m3) (W : FVec Ideal S512x3072 .fp8e4m3) (S : FVec Ideal S384x128 .f32) (V B : FVec Ideal S1x128 .f32)
    (o : Nat) (ho : o + 128 ≤ 512) (hs : S384x512.Slices ![0, o] S384x128) (x : S384x128.Idx) :
    truncf .bf16 (addf (mulf (mulf (extractStridedSlice S384x128 ![0, o]
        (matmul dot_S384x3072_S512x3072_S384x512_1_1_0_0_n_n none (shapeCast S384x3072 X shapeCasts_S384x3072_S384x3072) W
          (constant (F := Ideal) S384x512 .f32 0x00000000#32)) hs) S)
        (broadcastTo S384x128 (shapeCast S1x128 V shapeCasts_S1x128_S1x128) broadcasts_S1x128_S384x128))
        (broadcastTo S384x128 (shapeCast S1x128 B shapeCasts_S1x128_S1x128) broadcasts_S1x128_S384x128)) bitsLt_bf16_f32 x
      = (∑ k : Fin 3072, X (ix2 (x 0) k) * W (ix2 (⟨o + (x 1).val, lt_of_lt_of_le (Nat.add_lt_add_left (x 1).isLt o) ho⟩ : Fin 512) k))
          * S (ix2 (x 0) (x 1)) * V (ix2 (0 : Fin 1) (x 1)) + B (ix2 (0 : Fin 1) (x 1)) := by
  rw [eq_ix2 x]
  pointwise! []

/-- A tile of the block is where `outBlock` has it: the tile of rows from `r` on and of columns from `n + o` on, its `w` rows
    loaded from row `n` on, its columns' scales and biases loaded from row `g` with `128 g = n + o`. -/
theorem tile_eq (x : Vec Ideal S1152x3072 .fp8e4m3) (s : Vec Ideal S1152x128 .f32) (w : Vec Ideal S2048x3072 .fp8e4m3) (v b : Vec Ideal S16x128 .f32)
    (r n o g : Nat)
    (ix : ∀ a, (![r, 0] : Fin 2 → Nat) a + S384x3072.size a ≤ S1152x3072.size a) (iw : ∀ a, (![n, 0] : Fin 2 → Nat) a + S512x3072.size a ≤ S2048x3072.size a)
    (is : ∀ a, (![r, 0] : Fin 2 → Nat) a + S384x128.size a ≤ S1152x128.size a)
    (iv ib : ∀ a, (![g, 0] : Fin 2 → Nat) a + S1x128.size a ≤ S16x128.size a)
    (hs : S384x512.Slices ![0, o] S384x128) (ho : o + 128 ≤ 512)
    (j : S384x128.Idx) (y : S1152x2048.Idx) (h0 : (y 0).val = r + (j 0).val) (h1 : (y 1).val = n + o + (j 1).val) (hg : 128 * g = n + o) :
    truncf .bf16 (addf (mulf (mulf (extractStridedSlice S384x128 ![0, o]
        (matmul (φ₁ := .fp8e4m3) (φ₂ := .fp8e4m3) dot_S384x3072_S512x3072_S384x512_1_1_0_0_n_n none
          (shapeCast S384x3072 (View.ld x (Rect.unit (s := S1152x3072) ![r, 0] S384x3072.size ix) : FVec Ideal S384x3072 .fp8e4m3) shapeCasts_S384x3072_S384x3072)
          (View.ld w (Rect.unit (s := S2048x3072) ![n, 0] S512x3072.size iw) : FVec Ideal S512x3072 .fp8e4m3)
          (constant (F := Ideal) S384x512 .f32 0x00000000#32)) hs) (View.ld s (Rect.unit (s := S1152x128) ![r, 0] S384x128.size is) : FVec Ideal S384x128 .f32))
        (broadcastTo S384x128 (shapeCast S1x128 (View.ld v (Rect.unit (s := S16x128) ![g, 0] S1x128.size iv) : FVec Ideal S1x128 .f32) shapeCasts_S1x128_S1x128) broadcasts_S1x128_S384x128))
        (broadcastTo S384x128 (shapeCast S1x128 (View.ld b (Rect.unit (s := S16x128) ![g, 0] S1x128.size ib) : FVec Ideal S1x128 .f32) shapeCasts_S1x128_S1x128) broadcasts_S1x128_S384x128))
        bitsLt_bf16_f32 j = outBlock x s w v b y := by
  have hj : (j 1).val < 128 := (j 1).isLt
  have hd : (y 1).val / 128 = g := by omega
  have hm : (y 1).val % 128 = (j 1).val := by omega
  refine (tile_at _ _ _ _ _ o ho hs j).trans ?_
  unfold outBlock
  refine congrArg₂ (· + ·) (congrArg₂ (· * ·) (congrArg₂ (· * ·) (Finset.sum_congr rfl fun k _ => congrArg₂ (· * ·) ?_ ?_) ?_) ?_) ?_
  · refine congrArg x (funext fun a => Fin.ext ?_)
    match a with
    | ⟨0, _⟩ => show r + 1 * (j 0).val = (y 0).val; omega
    | ⟨1, _⟩ => show 0 + 1 * k.val = k.val; omega
  · refine congrArg w (funext fun a => Fin.ext ?_)
    match a with
    | ⟨0, _⟩ => show n + 1 * (o + (j 1).val) = (y 1).val; omega
    | ⟨1, _⟩ => show 0 + 1 * k.val = k.val; omega
  · refine congrArg s (funext fun a => Fin.ext ?_)
    match a with
    | ⟨0, _⟩ => show r + 1 * (j 0).val = (y 0).val; omega
    | ⟨1, _⟩ => show 0 + 1 * (j 1).val = (y 1).val % 128; omega
  · refine congrArg v (funext fun a => Fin.ext ?_)
    match a with
    | ⟨0, _⟩ => show g + 1 * 0 = (y 1).val / 128; omega
    | ⟨1, _⟩ => show 0 + 1 * (j 1).val = (y 1).val % 128; omega
  · refine congrArg b (funext fun a => Fin.ext ?_)
    match a with
    | ⟨0, _⟩ => show g + 1 * 0 = (y 1).val / 128; omega
    | ⟨1, _⟩ => show 0 + 1 * (j 1).val = (y 1).val % 128; omega

set_option maxHeartbeats 4000000 in
/-- One run of the body at a point that is not the first. -/
theorem body_rest (c : Dev nD) (E : Set ℕ) (i : grid0.Coords) (hi : ¬ isFirst i)
    (arg1 : Memref sig .tc .vmem S1152x3072 .fp8e4m3) (harg1 : arg1.IsWhole) (arg2 : Memref sig .tc .vmem S9x1x128 .f32) (harg2 : arg2.IsWhole)
    (arg3 : Memref sig .tc .vmem S2048x3072 .fp8e4m3) (harg3 : arg3.IsWhole) (arg4 : Memref sig .tc .vmem S16x128 .f32) (harg4 : arg4.IsWhole)
    (arg5 : Memref sig .tc .vmem S16x128 .f32) (harg5 : arg5.IsWhole) (arg6 : Memref sig .tc .vmem S1152x2048 .bf16) (harg6 : arg6.IsWhole)
    (arg7 : Memref sig .tc .vmem S1152x128 .f32) (harg7 : arg7.IsWhole)
    (x0 : Vec Ideal S1152x3072 .fp8e4m3) (x2 : Vec Ideal S2048x3072 .fp8e4m3) (x3 x4 : Vec Ideal S16x128 .f32) (s : Vec Ideal S1152x128 .f32)
    (K : PUnit → sProp 𝕄) :
    iprop(owns (c : Thread nD τ) arg1 fullShare x0 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare s
        ∗ (iprop(owns (c : Thread nD τ) arg1 fullShare x0 ∗ owns (c : Thread nD τ) arg3 fullShare x2
            ∗ owns (c : Thread nD τ) arg4 fullShare x3 ∗ owns (c : Thread nD τ) arg5 fullShare x4
            ∗ owns (c : Thread nD τ) arg6 fullShare (outBlock x0 s x2 x3 x4)
            ∗ owns (c : Thread nD τ) arg7 fullShare s) -∗ K ⟨⟩))
      ⊢ wp frame (wpE (defs₀ (F := Ideal)) Variants.none c none) E
          (cc0__linear_kernel i arg1 harg1 arg2 harg2 arg3 harg3 arg4 harg4 arg5 harg5 arg6 harg6 arg7 harg7) K := by
  unfold isFirst at hi
  simp only [cc0__linear_kernel_eq_skeleton]; unfold cc0__linear_kernel_skel
  unfold owns
  iintro ⟨⟨%f0, %hf0, H0⟩, ⟨%f2, %hf2, H2⟩, ⟨%f3, %hf3, H3⟩, ⟨%f4, %hf4, H4⟩, ⟨%d5, %f5, -, H5⟩, ⟨%f6, %hf6, H6⟩, Hk⟩
  subst hf0 hf2 hf3 hf4 hf6
  sl_exec
  sl_step
  iapply Hk
  isplitl [H0]
  · iexists f0; isplitr; · ipureintro; rfl
    iexact H0
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  swap
  · iexists f6; isplitr; · ipureintro; rfl
    iexact H6
  iexists _; isplitr
  swap; · iexact H5
  ipureintro
  refine (View.read_writes_eq_canon _ _ _ ?_).trans ?_
  · exact View.cover_of_tiled _ S384x128.size (by rfl)
  funext y
  canon_tiles x h
  all_goals clear harg1 harg2 harg3 harg4 harg5 harg6 harg7 hi K d5 f5
  all_goals open_payloads
  all_goals try delta body_rest.sl.r body_rest.sl.r_1 body_rest.sl.r_2 body_rest.sl.r_3 body_rest.sl.r_4 body_rest.sl.r_5 body_rest.sl.r_6 body_rest.sl.r_7 body_rest.sl.r_8 body_rest.sl.r_9 body_rest.sl.r_10 body_rest.sl.r_11 body_rest.sl.r_12 body_rest.sl.r_13 body_rest.sl.r_14 body_rest.sl.r_15 body_rest.sl.r_16 body_rest.sl.r_17 body_rest.sl.r_18 body_rest.sl.r_19 body_rest.sl.r_20 body_rest.sl.r_21 body_rest.sl.r_22 body_rest.sl.r_23 body_rest.sl.r_24 body_rest.sl.r_25 body_rest.sl.r_26 body_rest.sl.r_27 body_rest.sl.r_28 body_rest.sl.r_29 body_rest.sl.r_30
  all_goals try open_payloads
  all_goals refine tile_eq _ _ _ _ _ _ _ _ _ _ _ _ _ _ ?_ ?_ x y ?_ ?_ ?_ <;> first | omega | decide

end Cert.KernelIdeal.Hand

end
-- ==== Proof.KernelIdealFill.lean ====
/- The kernel body at the first grid point, over the extended reals: it fills the scratch buffer and then does what it does
   at every point. -/
module

public import proofs.«01_k».proof.Proof.KernelIdealBody

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

/-- What the scratch buffer holds once filled: row `r` holds the scale of row `r`, in every lane. That scale stands at
    `(r / 128, 0, r % 128)` of the reshaped scales. -/
def scaleBlock (x1 : FVec Ideal S9x1x128 .f32) : FVec Ideal S1152x128 .f32 := fun j =>
  x1 (ix3 (⟨(j 0).val / 128, Nat.div_lt_of_lt_mul (j 0).isLt⟩ : Fin 9) (0 : Fin 1) (⟨(j 0).val % 128, Nat.mod_lt _ (by decide)⟩ : Fin 128))

/-- One tile of the scratch buffer, entry by entry: a row of 128 scales repeated 128 times and transposed. -/
theorem fill_at (X : FVec Ideal S1x1x128 .f32) (x : S128x128.Idx) :
    shapeCast S128x128 (transpose S128x128 [1, 0] (broadcastTo S128x128 (shapeCast S1x128 (shapeCast S1x128 X shapeCasts_S1x1x128_S1x128)
      shapeCasts_S1x128_S1x128) broadcasts_S1x128_S128x128) transposes_S128x128_p1_0_S128x128) shapeCasts_S128x128_S128x128 x
      = X (ix3 (0 : Fin 1) (0 : Fin 1) (x 0)) := by
  rw [eq_ix2 x]
  pointwise! []

/-- A tile of the scratch buffer is where `scaleBlock` has it. -/
theorem fill_eq (x1 : Vec Ideal S9x1x128 .f32) (g : Nat) (ig : ∀ a, (![g, 0, 0] : Fin 3 → Nat) a + S1x1x128.size a ≤ S9x1x128.size a)
    (j : S128x128.Idx) (y : S1152x128.Idx) (h0 : (y 0).val = 128 * g + (j 0).val) :
    shapeCast S128x128 (transpose S128x128 [1, 0] (broadcastTo S128x128 (shapeCast S1x128 (shapeCast S1x128
      (View.ld x1 (Rect.unit (s := S9x1x128) ![g, 0, 0] S1x1x128.size ig) : FVec Ideal S1x1x128 .f32) shapeCasts_S1x1x128_S1x128)
      shapeCasts_S1x128_S1x128) broadcasts_S1x128_S128x128) transposes_S128x128_p1_0_S128x128) shapeCasts_S128x128_S128x128 j
      = scaleBlock x1 y := by
  have hj : (j 0).val < 128 := (j 0).isLt
  refine (fill_at _ j).trans ?_
  unfold scaleBlock
  refine congrArg x1 (funext fun a => Fin.ext ?_)
  match a with
  | ⟨0, _⟩ => show g + 1 * 0 = (y 0).val / 128; omega
  | ⟨1, _⟩ => rfl
  | ⟨2, _⟩ => show 0 + 1 * (j 0).val = (y 0).val % 128; omega

/-- The fill of the scratch buffer. -/
theorem fill_triple (c : Dev nD) (E : Set ℕ) (i : grid0.Coords)
    (arg1 : Memref sig .tc .vmem S1152x3072 .fp8e4m3) (harg1 : arg1.IsWhole) (arg2 : Memref sig .tc .vmem S9x1x128 .f32) (harg2 : arg2.IsWhole)
    (arg3 : Memref sig .tc .vmem S2048x3072 .fp8e4m3) (harg3 : arg3.IsWhole) (arg4 : Memref sig .tc .vmem S16x128 .f32) (harg4 : arg4.IsWhole)
    (arg5 : Memref sig .tc .vmem S16x128 .f32) (harg5 : arg5.IsWhole) (arg6 : Memref sig .tc .vmem S1152x2048 .bf16) (harg6 : arg6.IsWhole)
    (arg7 : Memref sig .tc .vmem S1152x128 .f32) (harg7 : arg7.IsWhole)
    (x1 : Vec Ideal S9x1x128 .f32) (K : PUnit → sProp 𝕄) :
    iprop(owns (c : Thread nD τ) arg2 fullShare x1 ∗ (∃ d, owns (c : Thread nD τ) arg7 fullShare d)
        ∗ (iprop(owns (c : Thread nD τ) arg2 fullShare x1 ∗ owns (c : Thread nD τ) arg7 fullShare (scaleBlock x1)) -∗ K ⟨⟩))
      ⊢ wp frame (wpE (defs₀ (F := Ideal)) Variants.none c none) E (fillScratch i arg1 harg1 arg2 harg2 arg3 harg3 arg4 harg4 arg5 harg5 arg6 harg6 arg7 harg7) K := by
  unfold fillScratch
  simp only [k0_part1_eq_skeleton, k0_part2_eq_skeleton]
  unfold owns
  iintro ⟨⟨%f1, %hf1, H1⟩, ⟨%d6, %f6, -, H6⟩, Hk⟩
  subst hf1
  sl_exec
  sl_step
  iapply Hk
  isplitl [H1]
  · iexists f1; isplitr; · ipureintro; rfl
    iexact H1
  iexists _; isplitr
  swap; · iexact H6
  ipureintro
  refine (View.read_writes_eq_canon _ _ _ ?_).trans ?_
  · exact View.cover_of_tiled _ S128x128.size (by rfl)
  funext y
  canon_tiles x h
  all_goals open_payloads
  all_goals try delta fill_triple.sl.r
  all_goals try delta fill_triple.sl.r_1
  all_goals try open_payloads
  all_goals refine fill_eq _ _ _ x y ?_ <;> omega

/-- One run of the body at the first point: the scratch buffer is found at anything and left filled. -/
theorem body_start (c : Dev nD) (E : Set ℕ) (i i' : grid0.Coords) (hi : isFirst i) (hi' : ¬ isFirst i')
    (arg1 : Memref sig .tc .vmem S1152x3072 .fp8e4m3) (harg1 : arg1.IsWhole) (arg2 : Memref sig .tc .vmem S9x1x128 .f32) (harg2 : arg2.IsWhole)
    (arg3 : Memref sig .tc .vmem S2048x3072 .fp8e4m3) (harg3 : arg3.IsWhole) (arg4 : Memref sig .tc .vmem S16x128 .f32) (harg4 : arg4.IsWhole)
    (arg5 : Memref sig .tc .vmem S16x128 .f32) (harg5 : arg5.IsWhole) (arg6 : Memref sig .tc .vmem S1152x2048 .bf16) (harg6 : arg6.IsWhole)
    (arg7 : Memref sig .tc .vmem S1152x128 .f32) (harg7 : arg7.IsWhole)
    (x0 : Vec Ideal S1152x3072 .fp8e4m3) (x1 : Vec Ideal S9x1x128 .f32) (x2 : Vec Ideal S2048x3072 .fp8e4m3) (x3 x4 : Vec Ideal S16x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 (scaleBlock x1) x2 x3 x4)
            ∗ owns (c : Thread nD τ) arg7 fullShare (scaleBlock x1)) -∗ K ⟨⟩))
      ⊢ wp frame (wpE (defs₀ (F := Ideal)) Variants.none c none) E (cc0__linear_kernel i arg1 harg1 arg2 harg2 arg3 harg3 arg4 harg4 arg5 harg5 arg6 harg6 arg7 harg7) K := by
  rw [body_first i i' hi hi', wp_bind]
  iintro ⟨H1, H2, H3, H4, H5, H6, H7, Hk⟩
  iapply (fill_triple c E i arg1 harg1 arg2 harg2 arg3 harg3 arg4 harg4 arg5 harg5 arg6 harg6 arg7 harg7 x1 _)
  isplitl [H2]; · iexact H2
  isplitl [H7]; · iexact H7
  iintro ⟨H2, H7⟩
  iapply (body_rest c E i' hi' arg1 harg1 arg2 harg2 arg3 harg3 arg4 harg4 arg5 harg5 arg6 harg6 arg7 harg7 x0 x2 x3 x4 (scaleBlock x1) K)
  isplitl [H1]; · iexact H1
  isplitl [H3]; · iexact H3
  isplitl [H4]; · iexact H4
  isplitl [H5]; · iexact H5
  isplitl [H6]; · iexact H6
  isplitl [H7]; · iexact H7
  iintro ⟨H1, H3, H4, H5, H6, H7⟩
  iapply Hk
  isplitl [H1]; · iexact H1
  isplitl [H2]; · iexact H2
  isplitl [H3]; · iexact H3
  isplitl [H4]; · iexact H4
  isplitl [H5]; · iexact H5
  isplitl [H6]; · iexact H6
  iexact H7

/-- The body's row in the table of definitions. -/
theorem body_row (t : Fin cfg0.N) : defs₀ (F := Ideal) .tc cfg0.body (cfg0.bodyArgs t (cfg0.slots t)) = bodyAt0 t := by
  unfold defs₀
  rw [Defs.onTc_tc]

end Cert.KernelIdeal.Hand

end
-- ==== Proof.KernelIdealRun.lean ====
/- The blocks over the extended reals, the clipped last one included: what each write-back writes is a
   block of one function of the arrays. -/
module

public import proofs.«01_k».proof.Proof.KernelIdealFill
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

/-- The linear layer on whole arrays: entry `(r, n)` is the dot product of row `r` of `x` with row `n` of `w`, times
    the row's scale, times the column's scale, plus the column's bias. The row's scale stands at `(r / 128, 0, r % 128)` of
    the reshaped row scales, the column's scale and bias at `(n / 128, n % 128)` of theirs. -/
def linear (X : FVec Ideal S1152x3072 .fp8e4m3) (S : FVec Ideal S9x1x128 .f32) (W : FVec Ideal S20352x3072 .fp8e4m3)
    (Vs B : FVec Ideal S159x128 .f32) : FVec Ideal S1152x20352 .bf16 := fun i =>
  (∑ k : Fin 3072, X (ix2 (i 0) k) * W (ix2 (i 1) k))
      * S (ix3 (⟨(i 0).val / 128, Nat.div_lt_of_lt_mul (i 0).isLt⟩ : Fin 9) (0 : Fin 1) (⟨(i 0).val % 128, Nat.mod_lt _ (by decide)⟩ : Fin 128))
      * Vs (ix2 (⟨(i 1).val / 128, Nat.div_lt_of_lt_mul (i 1).isLt⟩ : Fin 159) (⟨(i 1).val % 128, Nat.mod_lt _ (by decide)⟩ : Fin 128))
    + B (ix2 (⟨(i 1).val / 128, Nat.div_lt_of_lt_mul (i 1).isLt⟩ : Fin 159) (⟨(i 1).val % 128, Nat.mod_lt _ (by decide)⟩ : Fin 128))

variable (m : (ℓ : Loc nD τ sig) → Buf (Elt Ideal) ℓ) (ρ : Dev nD → PrngReg)

/-! ## Where the blocks lie -/

/-- `x`'s block is at the origin. -/
theorem place0 : ∀ t : Fin cfg0.N, win0_0.index t (0 : Fin 2) = 0 ∧ win0_0.index t (1 : Fin 2) = 0 :=
  (by decide +kernel : ∀ t : Fin grid0.N, _)
/-- `x_scale`'s block is at the origin. -/
theorem place1 : ∀ t : Fin cfg0.N, win0_1.index t (0 : Fin 3) = 0 ∧ win0_1.index t (1 : Fin 3) = 0 ∧ win0_1.index t (2 : Fin 3) = 0 :=
  (by decide +kernel : ∀ t : Fin grid0.N, _)
/-- `w`'s block at point `t` starts at row `2048 t` and is cut at the array's end. -/
theorem place2 : ∀ t : Fin cfg0.N, win0_2.index t (0 : Fin 2) = t.val ∧ win0_2.index t (1 : Fin 2) = 0
    ∧ win0_2.xsize (grid0.coords t) (0 : Fin 2) = min 2048 (20352 - 2048 * t.val) ∧ win0_2.xsize (grid0.coords t) (1 : Fin 2) = 3072 :=
  (by decide +kernel : ∀ t : Fin grid0.N, _)
/-- `w_scale`'s block at point `t` starts at row `16 t` and is cut at the array's end. -/
theorem place3 : ∀ t : Fin cfg0.N, win0_3.index t (0 : Fin 2) = t.val ∧ win0_3.index t (1 : Fin 2) = 0
    ∧ win0_3.xsize (grid0.coords t) (0 : Fin 2) = min 16 (159 - 16 * t.val) ∧ win0_3.xsize (grid0.coords t) (1 : Fin 2) = 128 :=
  (by decide +kernel : ∀ t : Fin grid0.N, _)
/-- `bias`'s block at point `t` starts at row `16 t` and is cut at the array's end. -/
theorem place4 : ∀ t : Fin cfg0.N, win0_4.index t (0 : Fin 2) = t.val ∧ win0_4.index t (1 : Fin 2) = 0
    ∧ win0_4.xsize (grid0.coords t) (0 : Fin 2) = min 16 (159 - 16 * t.val) ∧ win0_4.xsize (grid0.coords t) (1 : Fin 2) = 128 :=
  (by decide +kernel : ∀ t : Fin grid0.N, _)
/-- The result's block at point `t` starts at column `2048 t` and is cut at the array's end. -/
theorem place5 : ∀ t : Fin cfg0.N, win0_5.index t (0 : Fin 2) = 0 ∧ win0_5.index t (1 : Fin 2) = t.val
    ∧ win0_5.xsize (grid0.coords t) (0 : Fin 2) = 1152 ∧ win0_5.xsize (grid0.coords t) (1 : Fin 2) = min 2048 (20352 - 2048 * t.val) :=
  (by decide +kernel : ∀ t : Fin grid0.N, _)

/-! ## The input blocks, entry by entry -/

/-- `x`'s block is the whole of `x`. -/
theorem iblk0_at (c : Dev nD) (t : Fin cfg0.N) (r : Fin 1152) (k : Fin 3072) :
    iblk m c 0 t (ix2 r k : S1152x3072.Idx) = V m c main_v0 (ix2 r k : S1152x3072.Idx) := by
  obtain ⟨e0, e1⟩ := place0 t
  refine congrArg (V m c main_v0) (funext fun a => Fin.ext ?_)
  match a with
  | ⟨0, _⟩ => show win0_0.index t (0 : Fin 2) * 1152 + 1 * r.val = r.val; omega
  | ⟨1, _⟩ => show win0_0.index t (1 : Fin 2) * 3072 + 1 * k.val = k.val; omega

/-- `x_scale`'s block is the whole of `x_scale`, at every point. -/
theorem iblk1_eq (c : Dev nD) (t : Fin cfg0.N) : iblk m c 1 t = (V m c main_v1 : S9x1x128.Idx → Elt Ideal .f32) := by
  obtain ⟨e0, e1, e2⟩ := place1 t
  funext j
  refine congrArg (V m c main_v1) (funext fun a => Fin.ext ?_)
  match a with
  | ⟨0, _⟩ => show win0_1.index t (0 : Fin 3) * 9 + 1 * (j (0 : Fin 3)).val = (j (0 : Fin 3)).val; omega
  | ⟨1, _⟩ => show win0_1.index t (1 : Fin 3) * 1 + 1 * (j (1 : Fin 3)).val = (j (1 : Fin 3)).val; omega
  | ⟨2, _⟩ => show win0_1.index t (2 : Fin 3) * 128 + 1 * (j (2 : Fin 3)).val = (j (2 : Fin 3)).val; omega

/-- Row `q` of `w`'s buffer at point `t`, inside the array: row `2048 t + q` of `w`, whatever lies past the array's end. -/
theorem fill2_at (c : Dev nD) (t : Fin cfg0.N) (d : S2048x3072.Idx → Elt Ideal .fp8e4m3) (q : Fin 2048) (k : Fin 3072) (n : Fin 20352)
    (hn : n.val = 2048 * t.val + q.val) :
    win0_2.fill (grid0.coords t) d (iblk m c 2 t) (ix2 q k : S2048x3072.Idx) = V m c main_arg2 (ix2 n k : S20352x3072.Idx) := by
  obtain ⟨e0, e1, s0, s1⟩ := place2 t
  have hN := n.isLt; have hq := q.isLt; have hk := k.isLt
  unfold Window.fill
  rw [dif_pos ((win0_2.moved_iff _ _).2 fun a => by
    match a with
    | ⟨0, _⟩ => show q.val < win0_2.xsize (grid0.coords t) (0 : Fin 2); omega
    | ⟨1, _⟩ => show k.val < win0_2.xsize (grid0.coords t) (1 : Fin 2); omega)]
  refine congrArg (V m c main_arg2) (funext fun a => Fin.ext ?_)
  match a with
  | ⟨0, _⟩ => show win0_2.index t (0 : Fin 2) * 2048 + 1 * q.val = n.val; omega
  | ⟨1, _⟩ => show win0_2.index t (1 : Fin 2) * 3072 + 1 * k.val = k.val; omega

/-- Row `q` of `w_scale`'s buffer at point `t`, inside the array. -/
theorem fill3_at (c : Dev nD) (t : Fin cfg0.N) (d : S16x128.Idx → Elt Ideal .f32) (q : Fin 16) (l : Fin 128) (n : Fin 159)
    (hn : n.val = 16 * t.val + q.val) :
    win0_3.fill (grid0.coords t) d (iblk m c 3 t) (ix2 q l : S16x128.Idx) = V m c main_v2 (ix2 n l : S159x128.Idx) := by
  obtain ⟨e0, e1, s0, s1⟩ := place3 t
  have hN := n.isLt; have hq := q.isLt; have hl := l.isLt
  unfold Window.fill
  rw [dif_pos ((win0_3.moved_iff _ _).2 fun a => by
    match a with
    | ⟨0, _⟩ => show q.val < win0_3.xsize (grid0.coords t) (0 : Fin 2); omega
    | ⟨1, _⟩ => show l.val < win0_3.xsize (grid0.coords t) (1 : Fin 2); omega)]
  refine congrArg (V m c main_v2) (funext fun a => Fin.ext ?_)
  match a with
  | ⟨0, _⟩ => show win0_3.index t (0 : Fin 2) * 16 + 1 * q.val = n.val; omega
  | ⟨1, _⟩ => show win0_3.index t (1 : Fin 2) * 128 + 1 * l.val = l.val; omega

/-- Row `q` of `bias`'s buffer at point `t`, inside the array. -/
theorem fill4_at (c : Dev nD) (t : Fin cfg0.N) (d : S16x128.Idx → Elt Ideal .f32) (q : Fin 16) (l : Fin 128) (n : Fin 159)
    (hn : n.val = 16 * t.val + q.val) :
    win0_4.fill (grid0.coords t) d (iblk m c 4 t) (ix2 q l : S16x128.Idx) = V m c main_v3 (ix2 n l : S159x128.Idx) := by
  obtain ⟨e0, e1, s0, s1⟩ := place4 t
  have hN := n.isLt; have hq := q.isLt; have hl := l.isLt
  unfold Window.fill
  rw [dif_pos ((win0_4.moved_iff _ _).2 fun a => by
    match a with
    | ⟨0, _⟩ => show q.val < win0_4.xsize (grid0.coords t) (0 : Fin 2); omega
    | ⟨1, _⟩ => show l.val < win0_4.xsize (grid0.coords t) (1 : Fin 2); omega)]
  refine congrArg (V m c main_v3) (funext fun a => Fin.ext ?_)
  match a with
  | ⟨0, _⟩ => show win0_4.index t (0 : Fin 2) * 16 + 1 * q.val = n.val; omega
  | ⟨1, _⟩ => show win0_4.index t (1 : Fin 2) * 128 + 1 * l.val = l.val; omega

/-! ## What a write-back writes -/

/-- The result array: the linear layer of the arrays the region stages. -/
abbrev linearV (c : Dev nD) : FVec Ideal S1152x20352 .bf16 :=
  linear (V m c main_v0) (V m c main_v1) (V m c main_arg2) (V m c main_v2) (V m c main_v3)

/-- The filled scratch buffer. -/
abbrev scales (c : Dev nD) : FVec Ideal S1152x128 .f32 := scaleBlock (V m c main_v1)

/-- Inside the array, what the body leaves at point `t` is the block of the linear layer there — whatever the input
    buffers hold past the arrays' ends. -/
theorem cut_outBlock (c : Dev nD) (t : Fin cfg0.N) (d2 : S2048x3072.Idx → Elt Ideal .fp8e4m3) (d3 d4 : S16x128.Idx → Elt Ideal .f32) :
    win0_5.cut (grid0.coords t) (outBlock (iblk m c 0 t) (scales m c) (win0_2.fill (grid0.coords t) d2 (iblk m c 2 t))
        (win0_3.fill (grid0.coords t) d3 (iblk m c 3 t)) (win0_4.fill (grid0.coords t) d4 (iblk m c 4 t)))
      = (win0_5.blk t).view.read (Elt Ideal) (linearV m c) := by
  obtain ⟨e0, e1, s0, s1⟩ := place5 t
  funext j
  have h0 : (j (0 : Fin 2)).val < win0_5.xsize (grid0.coords t) (0 : Fin 2) := (j (0 : Fin 2)).isLt
  have h1 : (j (1 : Fin 2)).val < win0_5.xsize (grid0.coords t) (1 : Fin 2) := (j (1 : Fin 2)).isLt
  have hr : (j (0 : Fin 2)).val < 1152 := by omega
  have hq : (j (1 : Fin 2)).val < 2048 := by omega
  have hn : 2048 * t.val + (j (1 : Fin 2)).val < 20352 := by omega
  have hd : (2048 * t.val + (j (1 : Fin 2)).val) / 128 = 16 * t.val + (j (1 : Fin 2)).val / 128 := by omega
  have hm : (2048 * t.val + (j (1 : Fin 2)).val) % 128 = (j (1 : Fin 2)).val % 128 := by omega
  have hx : win0_5.xinj (grid0.coords t) j = (ix2 (⟨_, hr⟩ : Fin 1152) (⟨_, hq⟩ : Fin 2048) : S1152x2048.Idx) := by
    funext a; apply Fin.ext; match a with | ⟨0, _⟩ => rfl | ⟨1, _⟩ => rfl
  have he : (win0_5.blk t).view.emb j = (ix2 (⟨_, hr⟩ : Fin 1152) (⟨_, hn⟩ : Fin 20352) : S1152x20352.Idx) := by
    funext a; apply Fin.ext
    match a with
    | ⟨0, _⟩ => show win0_5.index t (0 : Fin 2) * 1152 + 1 * (j (0 : Fin 2)).val = (j (0 : Fin 2)).val; omega
    | ⟨1, _⟩ => show win0_5.index t (1 : Fin 2) * 2048 + 1 * (j (1 : Fin 2)).val = 2048 * t.val + (j (1 : Fin 2)).val; omega
  show outBlock _ _ _ _ _ (win0_5.xinj (grid0.coords t) j) = linearV m c ((win0_5.blk t).view.emb j)
  rw [hx, he]
  unfold outBlock linearV linear
  refine congrArg₂ (· + ·) (congrArg₂ (· * ·) (congrArg₂ (· * ·) (Finset.sum_congr rfl fun k _ => congrArg₂ (· * ·) ?_ ?_) ?_) ?_) ?_
  · exact iblk0_at m c t _ k
  · exact fill2_at m c t d2 _ k _ rfl
  · rfl
  · refine (fill3_at m c t d3 _ _ ⟨_, Nat.div_lt_of_lt_mul hn⟩ hd).trans ?_
    exact congrArg (fun l => V m c main_v2 (ix2 _ l : S159x128.Idx)) (Fin.ext hm.symm)
  · refine (fill4_at m c t d4 _ _ ⟨_, Nat.div_lt_of_lt_mul hn⟩ hd).trans ?_
    exact congrArg (fun l => V m c main_v3 (ix2 _ l : S159x128.Idx)) (Fin.ext hm.symm)

end Cert.KernelIdeal.Hand

end
-- ==== Proof.KernelIdealValue.lean ====
/- The run of the kernel over the extended reals, and what the result holds after it. -/
module

public import proofs.«01_k».proof.Proof.KernelIdealRun
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What is held between two points -/

/-- Between two points the pipeline holds the kernel's scratch buffer, at some contents, and the generator's register. -/
theorem held_eq (c : Dev nD) : (Pipeline.ΦA spec0 c : sProp 𝕄)
    = iprop((∃ d, owns (c : Thread nD τ) (Memref.whole cc0_scratch0) fullShare d) ∗ ∃ r, prngReg c r) := by
  unfold Pipeline.ΦA
  rw [scopedRest0_eq]
  simp only [owns_whole]

/-- Once the first point has run, the scratch buffer holds the scales. -/
def filled (c : Dev nD) : sProp 𝕄 :=
  iprop(owns (c : Thread nD τ) (Memref.whole cc0_scratch0) fullShare (scales m c) ∗ ∃ r, prngReg c r)

/-- Before point `t`: the scratch buffer at anything before the first point, at the scales before the others and at the end. -/
def held (c : Dev nD) (t : Fin (cfg0.N + 1)) : sProp 𝕄 := if t.val = 0 then Pipeline.ΦA spec0 c else filled m c

/-- At the end the scratch buffer's contents are forgotten. -/
theorem filled_forget (c : Dev nD) : filled m c ⊢ Pipeline.ΦA spec0 c := by
  rw [held_eq]
  unfold filled
  iintro ⟨H, Hr⟩
  isplitl [H]; · iexists _; iexact H
  iexact Hr

/-- Before the first point nothing is known of the scratch buffer. -/
theorem held_first (c : Dev nD) (t : Fin (cfg0.N + 1)) (h : t.val = 0) : held m c t = Pipeline.ΦA spec0 c := by
  unfold held; exact if_pos h
/-- Before any later point, and at the end, it holds the scales. -/
theorem held_later (c : Dev nD) (t : Fin (cfg0.N + 1)) (h : t.val ≠ 0) : held m c t = filled m c := by
  unfold held; exact if_neg h

/-- Point zero is the first point, as the body sees it. -/
theorem first_zero : ∀ t : Fin cfg0.N, t.val = 0 → isFirst (grid0.coords t) :=
  (by decide +kernel : ∀ t : Fin grid0.N, t.val = 0 → isFirst (grid0.coords t))
/-- The later points are not the first, as the body sees them. -/
theorem first_not : ∀ t : Fin cfg0.N, t.val ≠ 0 → ¬ isFirst (grid0.coords t) :=
  (by decide +kernel : ∀ t : Fin grid0.N, t.val ≠ 0 → ¬ isFirst (grid0.coords t))

/-- There is a point other than the first. -/
theorem one_lt : 1 < cfg0.N := by show 1 < grid0.N; rw [N_0]; decide

/-- What is held at the end, its contents forgotten. -/
theorem held_last (c : Dev nD) : held m c (Fin.last cfg0.N) ⊢ Pipeline.ΦA spec0 c := by
  rw [held_later m c (Fin.last cfg0.N) (Nat.ne_of_gt (Nat.lt_trans Nat.zero_lt_one one_lt))]
  exact filled_forget m c

/-! ## The proof data -/

/-- What the buffers hold after the body at point `t`, inside the arrays: the inputs their blocks, the result's the block
    of the linear layer. Past the arrays' ends the filler is zero, and nothing reads it. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => (0 : EReal)) (iblk m c 2 t)
    | ⟨3, _⟩ => win0_3.fill (grid0.coords t) (fun _ => (0 : EReal)) (iblk m c 3 t)
    | ⟨4, _⟩ => win0_4.fill (grid0.coords t) (fun _ => (0 : EReal)) (iblk m c 4 t)
    | ⟨5, _⟩ => win0_5.fill (grid0.coords t) (fun _ => (0 : EReal)) ((win0_5.blk t).view.read (Elt Ideal) (linearV m c))
  Φ t := held m c t
  q _ := fullShare
  owed _ := 0

/-- The data name each array at what the region finds in it. -/
theorem A_eq (c : Dev nD) (w : Fin cfg0.W) : (dats m 0 c).A w = V m c (Pipeline.arrRef spec0 w) := by
  dsimp only [dats]

/-- After the body `x`'s buffer still holds its block. -/
theorem after0_0 (c : Dev nD) (t : Fin cfg0.N) : (dats m 0 c).after 0 t = iblk m c 0 t := by dsimp only [dats]
/-- After the body `x_scale`'s buffer still holds its block. -/
theorem after0_1 (c : Dev nD) (t : Fin cfg0.N) : (dats m 0 c).after 1 t = iblk m c 1 t := by dsimp only [dats]
/-- After the body `w`'s buffer, inside the array, still holds its block. -/
theorem cut_after2 (c : Dev nD) (t : Fin cfg0.N) : win0_2.cut (grid0.coords t) ((dats m 0 c).after 2 t) = iblk m c 2 t := by
  dsimp only [dats]; exact win0_2.cut_fill _ _ _
/-- After the body `w_scale`'s buffer, inside the array, still holds its block. -/
theorem cut_after3 (c : Dev nD) (t : Fin cfg0.N) : win0_3.cut (grid0.coords t) ((dats m 0 c).after 3 t) = iblk m c 3 t := by
  dsimp only [dats]; exact win0_3.cut_fill _ _ _
/-- After the body `bias`'s buffer, inside the array, still holds its block. -/
theorem cut_after4 (c : Dev nD) (t : Fin cfg0.N) : win0_4.cut (grid0.coords t) ((dats m 0 c).after 4 t) = iblk m c 4 t := by
  dsimp only [dats]; exact win0_4.cut_fill _ _ _
/-- After the body the result's buffer, inside the array, holds the block of the linear layer. -/
theorem cut_after5 (c : Dev nD) (t : Fin cfg0.N) :
    win0_5.cut (grid0.coords t) ((dats m 0 c).after 5 t) = (win0_5.blk t).view.read (Elt Ideal) (linearV m c) := by
  dsimp only [dats]; exact win0_5.cut_fill _ _ _

/-- The body finds `x`'s buffer at its block. -/
theorem before0 (c : Dev nD) (t : Fin cfg0.N) (d) : (dats m 0 c).before 0 t d = iblk m c 0 t :=
  before0_0_of m (dats m 0 c) (A_eq m c 0) (after0_0 m c) t d
/-- The body finds `x_scale`'s buffer at its block. -/
theorem before1 (c : Dev nD) (t : Fin cfg0.N) (d) : (dats m 0 c).before 1 t d = iblk m c 1 t :=
  before0_1_of m (dats m 0 c) (A_eq m c 1) (after0_1 m c) t d
/-- The body finds `w`'s buffer just fetched: the block inside the array, anything past its end. -/
theorem before2 (c : Dev nD) (t : Fin cfg0.N) (d) : (dats m 0 c).before 2 t d = win0_2.fill (grid0.coords t) d (iblk m c 2 t) := by
  unfold Dat.before; rw [if_pos (fetch0_2 t)]; rfl
/-- The body finds `w_scale`'s buffer just fetched, likewise. -/
theorem before3 (c : Dev nD) (t : Fin cfg0.N) (d) : (dats m 0 c).before 3 t d = win0_3.fill (grid0.coords t) d (iblk m c 3 t) := by
  unfold Dat.before; rw [if_pos (fetch0_3 t)]; rfl
/-- The body finds `bias`'s buffer just fetched, likewise. -/
theorem before4 (c : Dev nD) (t : Fin cfg0.N) (d) : (dats m 0 c).before 4 t d = win0_4.fill (grid0.coords t) d (iblk m c 4 t) := by
  unfold Dat.before; rw [if_pos (fetch0_4 t)]; rfl

/-! ## The body at a point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: of a clipped window, the part inside the array is stated. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ (∃ d, owns (c : Thread nD τ) (st0_4 t) fullShare (win0_4.fill (grid0.coords t) d (win0_4.cut (grid0.coords t) ((dats m 0 c).after 4 t))))
    ∗ (∃ d, owns (c : Thread nD τ) (st0_5 t) fullShare (win0_5.fill (grid0.coords t) d (win0_5.cut (grid0.coords t) ((dats m 0 c).after 5 t)))))

/-- The body at the first point. -/
theorem body_at_first (c : Dev nD) (t : Fin cfg0.N) (h : t.val = 0) :
    bodyPre m c t ⊢ wp frame (wpE (defs₀ (F := Ideal)) Variants.none c none) Set.univ (bodyAt0 t) (fun _ => bodyPost m c t) := by
  unfold bodyPre bodyPost bodyAt0
  simp only [before0, before1, before2, before3, before4]
  rw [show (dats m 0 c).Φ t.castSucc = Pipeline.ΦA spec0 c from held_first m c t.castSucc h,
    show (dats m 0 c).Φ t.succ = filled m c from held_later m c t.succ (Nat.succ_ne_zero t.val),
    show (dats m 0 c).owesAt () t.succ = (dats m 0 c).owesAt () t.castSucc from rfl,
    after0_0, after0_1, cut_after2, cut_after3, cut_after4, cut_after5, held_eq]
  unfold filled
  iintro ⟨⟨H6, Hr⟩, Ho, ⟨%d0, H0⟩, ⟨%d1, H1⟩, ⟨%d2, H2⟩, ⟨%d3, H3⟩, ⟨%d4, H4⟩, ⟨%d5, H5⟩⟩
  iapply (body_start c Set.univ (grid0.coords t) (grid0.coords ⟨1, one_lt⟩) (first_zero t h) (first_not ⟨1, one_lt⟩ Nat.one_ne_zero)
    _ _ _ _ _ _ _ _ _ _ _ _ _ _ (iblk m c 0 t) (iblk m c 1 t) (win0_2.fill (grid0.coords t) d2 (iblk m c 2 t))
    (win0_3.fill (grid0.coords t) d3 (iblk m c 3 t)) (win0_4.fill (grid0.coords t) d4 (iblk m c 4 t)) _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  rw [show scaleBlock (iblk m c 1 t) = scales m c from congrArg scaleBlock (iblk1_eq m c t)]
  iintro ⟨H0, H1, H2, H3, H4, H5, H6⟩
  isplitl [H6 Hr]
  · isplitl [H6]; · iexact H6
    iexact Hr
  isplitl [Ho]; · iexact Ho
  isplitl [H0]; · iexact H0
  isplitl [H1]; · iexact H1
  isplitl [H2]; · iexists d2; iexact H2
  isplitl [H3]; · iexists d3; iexact H3
  isplitl [H4]; · iexists d4; iexact H4
  iexists _
  rw [← cut_outBlock m c t d2 d3 d4, win0_5.fill_cut]
  iexact H5

/-- The body at any later point. -/
theorem body_at_later (c : Dev nD) (t : Fin cfg0.N) (h : t.val ≠ 0) :
    bodyPre m c t ⊢ wp frame (wpE (defs₀ (F := Ideal)) Variants.none c none) Set.univ (bodyAt0 t) (fun _ => bodyPost m c t) := by
  unfold bodyPre bodyPost bodyAt0
  simp only [before0, before1, before2, before3, before4]
  rw [show (dats m 0 c).Φ t.castSucc = filled m c from held_later m c t.castSucc h,
    show (dats m 0 c).Φ t.succ = filled m c from held_later m c t.succ (Nat.succ_ne_zero t.val),
    show (dats m 0 c).owesAt () t.succ = (dats m 0 c).owesAt () t.castSucc from rfl,
    after0_0, after0_1, cut_after2, cut_after3, cut_after4, cut_after5]
  unfold filled
  iintro ⟨⟨H6, Hr⟩, Ho, ⟨%d0, H0⟩, ⟨%d1, H1⟩, ⟨%d2, H2⟩, ⟨%d3, H3⟩, ⟨%d4, H4⟩, ⟨%d5, H5⟩⟩
  iapply (body_rest c Set.univ (grid0.coords t) (first_not t h)
    _ _ _ _ _ _ _ _ _ _ _ _ _ _ (iblk m c 0 t) (win0_2.fill (grid0.coords t) d2 (iblk m c 2 t))
    (win0_3.fill (grid0.coords t) d3 (iblk m c 3 t)) (win0_4.fill (grid0.coords t) d4 (iblk m c 4 t)) (scales m c) _)
  isplitl [H0]; · iexact H0
  isplitl [H2]; · iexact H2
  isplitl [H3]; · iexact H3
  isplitl [H4]; · iexact H4
  isplitl [H5]; · iexists _; iexact H5
  isplitl [H6]; · iexact H6
  iintro ⟨H0, H2, H3, H4, H5, H6⟩
  isplitl [H6 Hr]
  · isplitl [H6]; · iexact H6
    iexact Hr
  isplitl [Ho]; · iexact Ho
  isplitl [H0]; · iexact H0
  isplitl [H1]; · iexact H1
  isplitl [H2]; · iexists d2; iexact H2
  isplitl [H3]; · iexists d3; iexact H3
  isplitl [H4]; · iexists d4; iexact H4
  iexists _
  rw [← cut_outBlock m c t d2 d3 d4, win0_5.fill_cut]
  iexact H5

/-- The body at any point. -/
theorem body_at (c : Dev nD) (t : Fin cfg0.N) :
    bodyPre m c t ⊢ wp frame (wpE (defs₀ (F := Ideal)) Variants.none c none) Set.univ (bodyAt0 t) (fun _ => bodyPost m c t) := by
  by_cases h : t.val = 0
  · exact body_at_first m c t h
  · exact body_at_later m c t h

/-- The library's body obligation. -/
theorem body_obligation (c : Dev nD) :
    BodyObligationLoose (dats m 0 c) (defs₀ (F := Ideal)) Variants.none () Set.univ := fun t => by
  rw [bigSep_W0, bigSep_W0, body_row]
  exact triple_restated (body_at m c t) rfl .rfl fun _ => .rfl

/-! ## The run -/

set_option backward.isDefEq.respectTransparency.types false in
set_option maxHeartbeats 800000 in
/-- The launch: every run ends, each array at what the write-backs leave in it, every other buffer at what the later
    line leaves in it, and every semaphore counter at zero. -/
theorem run : θ_run defs (onTc (τ := τ) (main (F := Ideal))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun _ => .rfl) (hout := held_last m) (hQ' := fun _ h => h)

/-- The result array after the region: the linear layer, every column (the blocks cover the array). -/
theorem final5 (c : Dev nD) : (dats m 0 c).arrAt 5 cfg0.N = linearV m c :=
  (dats m 0 c).arrAt_eq_of_cover 5 (linearV m c) (fun t _ => cut_after5 m c t) fun i => by
    have h0 : (i (0 : Fin 2)).val < 1152 := (i (0 : Fin 2)).isLt
    have h1 : (i (1 : Fin 2)).val < 20352 := (i (1 : Fin 2)).isLt
    obtain ⟨t, ht⟩ : ∃ t : Fin cfg0.N, t.val = (i (1 : Fin 2)).val / 2048 :=
      ⟨⟨(i (1 : Fin 2)).val / 2048, by show _ < grid0.N; rw [N_0]; omega⟩, rfl⟩
    obtain ⟨e0, e1, s0, s1⟩ := place5 t
    refine ⟨t, flush0_5 t, ?_⟩
    have hj : ∀ a : Fin 2, (![(i (0 : Fin 2)).val, (i (1 : Fin 2)).val % 2048] : Fin 2 → Nat) a < win0_5.xsize (grid0.coords t) a := fun a => by
      match a with
      | ⟨0, _⟩ => show (i (0 : Fin 2)).val < win0_5.xsize (grid0.coords t) (0 : Fin 2); omega
      | ⟨1, _⟩ => show (i (1 : Fin 2)).val % 2048 < win0_5.xsize (grid0.coords t) (1 : Fin 2); omega
    have hm := (win0_5.blk t).view.emb_mem_set (fun a => ⟨_, hj a⟩ : (win0_5.xblock (grid0.coords t)).Idx)
    have he : (win0_5.blk t).view.emb (fun a => ⟨_, hj a⟩ : (win0_5.xblock (grid0.coords t)).Idx) = i := by
      funext a; apply Fin.ext
      match a with
      | ⟨0, _⟩ => show win0_5.index t (0 : Fin 2) * 1152 + 1 * (i (0 : Fin 2)).val = (i (0 : Fin 2)).val; omega
      | ⟨1, _⟩ => show win0_5.index t (1 : Fin 2) * 2048 + 1 * ((i (1 : Fin 2)).val % 2048) = (i (1 : Fin 2)).val; omega
    rwa [he] at hm

/-- The result after the whole program: the region's result reshaped. -/
theorem tail5 (c : Dev nD) : Pipeline.afterTail₀ cfgs (dats m) 0 (V0 m) [hostOps1] c main_v5
    = shapeCast S3x384x20352 (linearV m c) shapeCasts_S1152x20352_S3x384x20352 := by
  show StableHlo.after hostOps1 _ (Proc.devRef .tc main_v5) = _
  after_results
  have h := Pipeline.withArrays_arr spec0 launch0.win.arr_inj c (V0 m c) (fun w => (dats m 0 c).arrAt w cfg0.N) 5
  rw [final5] at h
  exact congrArg (fun X => shapeCast S3x384x20352 X shapeCasts_S1152x20352_S3x384x20352) h

/-- The region finds `x` with its rows in one list. -/
theorem V_v0 (c : Dev nD) : V m c main_v0 = shapeCast S1152x3072 (m ((c : Thread nD τ).loc main_arg0)) shapeCasts_S3x384x3072_S1152x3072 := by
  show StableHlo.after hostOps0 _ (Proc.devRef .tc main_v0) = _
  after_results
  rfl
/-- The region finds the row scales in nine rows of 128. -/
theorem V_v1 (c : Dev nD) : V m c main_v1 = shapeCast S9x1x128 (m ((c : Thread nD τ).loc main_arg1)) shapeCasts_S3x384x1_S9x1x128 := by
  show StableHlo.after hostOps0 _ (Proc.devRef .tc main_v1) = _
  after_results
  rfl
/-- The region finds `w_scale` in rows of 128. -/
theorem V_v2 (c : Dev nD) : V m c main_v2 = shapeCast S159x128 (m ((c : Thread nD τ).loc main_arg3)) shapeCasts_S20352_S159x128 := by
  show StableHlo.after hostOps0 _ (Proc.devRef .tc main_v2) = _
  after_results
  rfl
/-- The region finds `bias` in rows of 128. -/
theorem V_v3 (c : Dev nD) : V m c main_v3 = shapeCast S159x128 (m ((c : Thread nD τ).loc main_arg4)) shapeCasts_S20352_S159x128 := by
  show StableHlo.after hostOps0 _ (Proc.devRef .tc main_v3) = _
  after_results
  rfl

end Cert.KernelIdeal.Hand

end
-- ==== Proof.Equation.lean ====
/- The kernel's result, entry by entry, and the run that ends with it. -/
module

public import proofs.«01_k».proof.Proof.KernelIdealValue

@[expose] public section

set_option maxRecDepth 16384

noncomputable section

namespace Cert.KernelIdeal.Hand

open Cert.KernelIdeal Cert.KernelIdeal.Gen
open Idealize.ShloMosaic Idealize.ShloMosaic.TcCoe Idealize.SL.Sem

/-- The kernel's result as a function of its arguments: they are reshaped, the linear layer is computed on the flat rows,
    and the rows are split again. -/
def result (a0 : FVec Ideal S3x384x3072 .fp8e4m3) (a1 : FVec Ideal S3x384x1 .f32) (a2 : FVec Ideal S20352x3072 .fp8e4m3)
    (a3 a4 : FVec Ideal S20352 .f32) : FVec Ideal S3x384x20352 .bf16 :=
  shapeCast S3x384x20352 (linear (shapeCast S1152x3072 a0 shapeCasts_S3x384x3072_S1152x3072)
    (shapeCast S9x1x128 a1 shapeCasts_S3x384x1_S9x1x128) a2 (shapeCast S159x128 a3 shapeCasts_S20352_S159x128)
    (shapeCast S159x128 a4 shapeCasts_S20352_S159x128)) shapeCasts_S1152x20352_S3x384x20352

/-- Entry `(b, s, n)` of the kernel's result. -/
theorem result_at (a0 : FVec Ideal S3x384x3072 .fp8e4m3) (a1 : FVec Ideal S3x384x1 .f32) (a2 : FVec Ideal S20352x3072 .fp8e4m3)
    (a3 a4 : FVec Ideal S20352 .f32) (b : Fin 3) (s : Fin 384) (n : Fin 20352) :
    result a0 a1 a2 a3 a4 (ix3 b s n)
      = (∑ k : Fin 3072, a0 (ix3 b s k) * a2 (ix2 n k)) * a1 (ix3 b s (0 : Fin 1)) * a3 (ix1 n) + a4 (ix1 n) := by
  have hd : ((b : ℕ) * 384 + (s : ℕ)) / 384 = b := by have := s.isLt; omega
  have hm : ((b : ℕ) * 384 + (s : ℕ)) % 384 = s := by have := s.isLt; omega
  pointwise! [result, linear, hd, hm]

variable (m : (ℓ : Loc nD τ sig) → Buf (Elt Ideal) ℓ) (ρ : Dev nD → PrngReg)

/-- Every run ends with the argument arrays unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.1) (run m ρ))

/-- Every run ends with every semaphore counter at zero. -/
theorem quiet : θ_run defs (onTc (τ := τ) (main (F := Ideal))) ⟨m, fun _ => 0, ρ⟩ (fun r => r.2.sem = fun _ => 0) :=
  (θ_run defs _ _).mono (fun _ h => h.2) (run m ρ)

/-- Every run ends with the result buffer at `result` of the arguments. -/
theorem result_run : θ_run defs (onTc (τ := τ) (main (F := Ideal))) ⟨m, fun _ => 0, ρ⟩ (fun r => ∀ c : Dev nD,
    r.2.mem ((c.tc : Thread nD τ).loc main_v5) = result (m ((c : Thread nD τ).loc main_arg0)) (m ((c : Thread nD τ).loc main_arg1))
      (m ((c : Thread nD τ).loc main_arg2)) (m ((c : Thread nD τ).loc main_arg3)) (m ((c : Thread nD τ).loc main_arg4))) := by
  refine (θ_run defs _ _).mono (fun r h c => ?_) (run m ρ)
  refine ((h.1 c).2 main_v5 (Pipeline.mem_restRefs_of main_v5 (by decide) (by decide))).trans ((tail5 m c).trans ?_)
  unfold linearV result
  rw [V_v0, V_v1, V_v2, V_v3, V_main_arg2]

end Cert.KernelIdeal.Hand

end
-- ==== Proof.lean ====
/- The five claims, assembled: the frames of the three programs, that the idealized kernel is the printed one, and that
   over the extended reals the kernel's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelFrame
public import proofs.«01_k».proof.Proof.Reference
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel's result is the reference's, at the same arguments: the two agree entry by entry. -/
theorem result_eq_reference (a0 : FVec Ideal ⟨3, ![3, 384, 3072]⟩ .fp8e4m3) (a1 : FVec Ideal ⟨3, ![3, 384, 1]⟩ .f32)
    (a2 : FVec Ideal ⟨2, ![20352, 3072]⟩ .fp8e4m3) (a3 a4 : FVec Ideal ⟨1, ![20352]⟩ .f32) :
    Cert.ReferenceIdeal.Value.G5 (F := Ideal) a0 a1 a2 a3 a4 = Cert.KernelIdeal.Hand.result a0 a1 a2 a3 a4 := by
  funext i
  rw [eq_ix3 i]
  exact (Cert.ReferenceIdeal.Hand.reference_at a0 a1 a2 a3 a4 _ _ _).trans
    (Cert.KernelIdeal.Hand.result_at a0 a1 a2 a3 a4 _ _ _).symm

/-- The value claim: from equal arguments the two programs end with equal results, their arguments unchanged. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => Cert.KernelIdeal.Hand.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run _ _ _).mono (fun r h c => ⟨h.1 c, h.2 c⟩)
      (θ_run_and (Cert.KernelIdeal.Hand.result_run m g) (Cert.KernelIdeal.Hand.unchanged m g))
  · refine (θ_run _ _ _).mono (fun r h c => ⟨(h c).1.trans ?_, (h c).2⟩) (Cert.ReferenceIdeal.Value.run m' g')
    obtain ⟨h0, h1, h2, h3, h4⟩ := hm c
    rw [h0, h1, h2, h3, h4]
    exact result_eq_reference _ _ _ _ _

/-- All five claims. -/
theorem claim : Cert.Claim := ⟨Cert.Kernel.Gen.facts, Cert.KernelIdeal.Gen.facts, Cert.ReferenceIdeal.Gen.facts,
  fun m ρ _ => Cert.Kernel.Hand.frame m ρ,
  fun m ρ _ => θ_run_and (Cert.KernelIdeal.Hand.unchanged m ρ) (Cert.KernelIdeal.Hand.quiet m ρ),
  fun m ρ _ => Cert.ReferenceIdeal.Gen.frame m ρ,
  trivial,
  algebraic⟩

end Cert.Proof

end
